-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S64x128 : Shape := ⟨2, ![64, 128]⟩
abbrev S64 : Shape := ⟨1, ![64]⟩
abbrev S1x64x64 : Shape := ⟨3, ![1, 64, 64]⟩
abbrev S1 : Shape := ⟨1, ![1]⟩
abbrev S10000x128 : Shape := ⟨2, ![10000, 128]⟩
abbrev S10000x10000 : Shape := ⟨2, ![10000, 10000]⟩
abbrev S128x64 : Shape := ⟨2, ![128, 64]⟩
abbrev S128 : Shape := ⟨1, ![128]⟩
abbrev S1x128 : Shape := ⟨2, ![1, 128]⟩
abbrev S2x128 : Shape := ⟨2, ![2, 128]⟩
abbrev S2000x128 : Shape := ⟨2, ![2000, 128]⟩
abbrev S2000x64 : Shape := ⟨2, ![2000, 64]⟩
abbrev S10000x64 : Shape := ⟨2, ![10000, 64]⟩
abbrev S1x64 : Shape := ⟨2, ![1, 64]⟩
abbrev S80x10000 : Shape := ⟨2, ![80, 10000]⟩
abbrev S80x64 : Shape := ⟨2, ![80, 64]⟩
abbrev S80x128 : Shape := ⟨2, ![80, 128]⟩
abbrev S10000x1 : Shape := ⟨2, ![10000, 1]⟩
abbrev S64x64 : Shape := ⟨2, ![64, 64]⟩
abbrev S1x1 : Shape := ⟨2, ![1, 1]⟩
abbrev S10000 : Shape := ⟨1, ![10000]⟩
abbrev S20000 : Shape := ⟨1, ![20000]⟩
abbrev S1x20000 : Shape := ⟨2, ![1, 20000]⟩

abbrev nBuf : Space → Nat
  | .hbm => 35
  | .vmem => 25
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S64x128, .f32⟩
  | .hbm, ⟨7, _⟩ => ⟨S64, .f32⟩
  | .hbm, ⟨8, _⟩ => ⟨S_, .f32⟩
  | .hbm, ⟨9, _⟩ => ⟨S1x64x64, .f32⟩
  | .hbm, ⟨10, _⟩ => ⟨S1, .f32⟩
  | .hbm, ⟨11, _⟩ => ⟨S10000x128, .f32⟩
  | .hbm, ⟨12, _⟩ => ⟨S10000x128, .f32⟩
  | .hbm, ⟨13, _⟩ => ⟨S10000x10000, .f32⟩
  | .hbm, ⟨14, _⟩ => ⟨S128x64, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S1x128, .f32⟩
  | .hbm, ⟨19, _⟩ => ⟨S2x128, .f32⟩
  | .hbm, ⟨20, _⟩ => ⟨S10000x128, .f32⟩
  | .hbm, ⟨21, _⟩ => ⟨S10000x64, .f32⟩
  | .hbm, ⟨22, _⟩ => ⟨S10000x64, .f32⟩
  | .hbm, ⟨23, _⟩ => ⟨S1x64, .f32⟩
  | .hbm, ⟨24, _⟩ => ⟨S10000x1, .f32⟩
  | .hbm, ⟨25, _⟩ => ⟨S10000x1, .f32⟩
  | .hbm, ⟨26, _⟩ => ⟨S64x64, .f32⟩
  | .hbm, ⟨27, _⟩ => ⟨S64x64, .f32⟩
  | .hbm, ⟨28, _⟩ => ⟨S1x1, .f32⟩
  | .hbm, ⟨29, _⟩ => ⟨S10000x1, .f32⟩
  | .hbm, ⟨30, _⟩ => ⟨S10000x1, .f32⟩
  | .hbm, ⟨31, _⟩ => ⟨S10000, .f32⟩
  | .hbm, ⟨32, _⟩ => ⟨S10000, .f32⟩
  | .hbm, ⟨33, _⟩ => ⟨S20000, .f32⟩
  | .hbm, ⟨34, _⟩ => ⟨S1x20000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S2000x128, .f32⟩
  | .local _ .vmem, ⟨6, _⟩ => ⟨S2000x128, .f32⟩
  | .local _ .vmem, ⟨7, _⟩ => ⟨S10000x128, .f32⟩
  | .local _ .vmem, ⟨8, _⟩ => ⟨S2x128, .f32⟩
  | .local _ .vmem, ⟨9, _⟩ => ⟨S80x10000, .f32⟩
  | .local _ .vmem, ⟨10, _⟩ => ⟨S80x10000, .f32⟩
  | .local _ .vmem, ⟨11, _⟩ => ⟨S80x64, .f32⟩
  | .local _ .vmem, ⟨12, _⟩ => ⟨S80x64, .f32⟩
  | .local _ .vmem, ⟨13, _⟩ => ⟨S80x64, .f32⟩
  | .local _ .vmem, ⟨14, _⟩ => ⟨S80x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S64x64, .f32⟩
  | .local _ .vmem, ⟨20, _⟩ => ⟨S10000x1, .f32⟩
  | .local _ .vmem, ⟨21, _⟩ => ⟨S10000x1, .f32⟩
  | .local _ .vmem, ⟨22, _⟩ => ⟨S1x1, .f32⟩
  | .local _ .vmem, ⟨23, _⟩ => ⟨S10000x1, .f32⟩
  | .local _ .vmem, ⟨24, _⟩ => ⟨S10000x1, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := .none

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10000x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S10000x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S10000x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 10000 : ℝ) : EReal)
  | _ => none
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S64x128 : Shape := ⟨2, ![64, 128]⟩
abbrev S64 : Shape := ⟨1, ![64]⟩
abbrev S1x64x64 : Shape := ⟨3, ![1, 64, 64]⟩
abbrev S1 : Shape := ⟨1, ![1]⟩
abbrev S1x10000x64 : Shape := ⟨3, ![1, 10000, 64]⟩
abbrev S10000x10000 : Shape := ⟨2, ![10000, 10000]⟩
abbrev S10000x64 : Shape := ⟨2, ![10000, 64]⟩
abbrev S1x1x64 : Shape := ⟨3, ![1, 1, 64]⟩
abbrev S1x64 : Shape := ⟨2, ![1, 64]⟩
abbrev S64x64 : Shape := ⟨2, ![64, 64]⟩
abbrev S1x20000 : Shape := ⟨2, ![1, 20000]⟩

abbrev nBuf : Space → Nat
  | .hbm => 68
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S64x128, .f32⟩
  | .hbm, ⟨7, _⟩ => ⟨S64, .f32⟩
  | .hbm, ⟨8, _⟩ => ⟨S_, .f32⟩
  | .hbm, ⟨9, _⟩ => ⟨S1x64x64, .f32⟩
  | .hbm, ⟨10, _⟩ => ⟨S1, .f32⟩
  | .hbm, ⟨11, _⟩ => ⟨S1x10000x64, .f32⟩
  | .hbm, ⟨12, _⟩ => ⟨S10000x10000, .f32⟩
  | .hbm, ⟨13, _⟩ => ⟨S10000x64, .f32⟩
  | .hbm, ⟨14, _⟩ => ⟨S10000x64, .f32⟩
  | .hbm, ⟨15, _⟩ => ⟨S1x10000x64, .f32⟩
  | .hbm, ⟨16, _⟩ => ⟨S1x1x64, .f32⟩
  | .hbm, ⟨17, _⟩ => ⟨S1x10000x64, .f32⟩
  | .hbm, ⟨18, _⟩ => ⟨S1x10000x64, .f32⟩
  | .hbm, ⟨19, _⟩ => ⟨S_, .f32⟩
  | .hbm, ⟨20, _⟩ => ⟨S1x10000x64, .f32⟩
  | .hbm, ⟨21, _⟩ => ⟨S1x10000x64, .i1⟩
  | .hbm, ⟨22, _⟩ => ⟨S1x10000x64, .f32⟩
  | .hbm, ⟨23, _⟩ => ⟨S1x10000x64, .f32⟩
  | .hbm, ⟨24, _⟩ => ⟨S1x10000x64, .f32⟩
  | .hbm, ⟨25, _⟩ => ⟨S_, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S1x10000x64, .f32⟩
  | .hbm, ⟨39, _⟩ => ⟨S10000x10000, .f32⟩
  | .hbm, ⟨40, _⟩ => ⟨S10000x64, .f32⟩
  | .hbm, ⟨41, _⟩ => ⟨S10000x64, .f32⟩
  | .hbm, ⟨42, _⟩ => ⟨S1x10000x64, .f32⟩
  | .hbm, ⟨43, _⟩ => ⟨S1x1x64, .f32⟩
  | .hbm, ⟨44, _⟩ => ⟨S1x10000x64, .f32⟩
  | .hbm, ⟨45, _⟩ => ⟨S1x10000x64, .f32⟩
  | .hbm, ⟨46, _⟩ => ⟨S_, .f32⟩
  | .hbm, ⟨47, _⟩ => ⟨S1x10000x64, .f32⟩
  | .hbm, ⟨48, _⟩ => ⟨S1x10000x64, .i1⟩
  | .hbm, ⟨49, _⟩ => ⟨S1x10000x64, .f32⟩
  | .hbm, ⟨50, _⟩ => ⟨S1x10000x64, .f32⟩
  | .hbm, ⟨51, _⟩ => ⟨S1x10000x64, .f32⟩
  | .hbm, ⟨52, _⟩ => ⟨S64x64, .f32⟩
  | .hbm, ⟨53, _⟩ => ⟨S1x64, .f32⟩
  | .hbm, ⟨54, _⟩ => ⟨S1x10000, .f32⟩
  | .hbm, ⟨55, _⟩ => ⟨S_, .f32⟩
  | .hbm, ⟨56, _⟩ => ⟨S1x10000, .f32⟩
  | .hbm, ⟨57, _⟩ => ⟨S1x10000, .f32⟩
  | .hbm, ⟨58, _⟩ => ⟨S64x64, .f32⟩
  | .hbm, ⟨59, _⟩ => ⟨S1x64, .f32⟩
  | .hbm, ⟨60, _⟩ => ⟨S1x10000, .f32⟩
  | .hbm, ⟨61, _⟩ => ⟨S_, .f32⟩
  | .hbm, ⟨62, _⟩ => ⟨S1x10000, .f32⟩
  | .hbm, ⟨63, _⟩ => ⟨S1x10000, .f32⟩
  | .hbm, ⟨64, _⟩ => ⟨S1x10000, .f32⟩
  | .hbm, ⟨65, _⟩ => ⟨S1x10000, .f32⟩
  | .hbm, ⟨66, _⟩ => ⟨S1x20000, .f32⟩
  | .hbm, ⟨67, _⟩ => ⟨S10000x64, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.Fts.lean ====
module

public import proofs.«01_k».proof.Proof.Gen.KernelIdeal.Frame
public import Idealize.ShloMosaic.Lib.Pipeline.ValueKit

@[expose] public section

set_option maxRecDepth 16384

noncomputable section

namespace Cert.Proof.Fts

open Idealize.ShloMosaic Idealize.ShloMosaic.TcCoe Idealize.SL.Sem
open Idealize.ShloMosaic.Pipeline (Dat)
open Cert.KernelIdeal Cert.KernelIdeal.Gen

/-- The feature array: its left 64 columns are the product of `X` with `T`, its right 64 columns that of `Y` with `T`. -/
def fts (X Y : FVec Ideal S10000x128 .f32) (T : FVec Ideal S128x64 .f32) : FVec Ideal S10000x128 .f32 :=
  fun i => if h : (i 1 : ℕ) < 64 then ∑ l : Fin 128, X (ix2 (i 0) l) * T (ix2 l ⟨i 1, h⟩)
    else ∑ l : Fin 128, Y (ix2 (i 0) l) * T (ix2 l ⟨(i 1 : ℕ) - 64, by have := (i 1).isLt; simp at this; omega⟩)

/-- The block each window is at, at every grid point. -/
theorem idx : ∀ t : Fin cfg0.N, win0_0.index t = ![t.val, 0] ∧ win0_1.index t = ![t.val, 0] ∧ win0_2.index t = ![0, 0]
    ∧ win0_3.index t = ![t.val, 0] := (by decide +kernel : ∀ t : Fin grid0.N, _)

variable (V : (c : Dev nD) → (b : Ref sig .tc) → Buf (Elt Ideal) ((c : Thread nD τ).loc b))

/-- What the first kernel stores at a row of its block is the feature array at that row. -/
theorem point (c : Dev nD) (t : Fin cfg0.N) (y) :
    k0_pay1 (F := Ideal) (iblk0 V c 0 t) (iblk0 V c 2 t) (iblk0 V c 1 t) (iblk0 V c 2 t) y
      = fts (V c main_v0) (V c main_v1) (V c main_v3) (((cfg0.win 3).blk t).view.emb y) := by
  have e : ((((cfg0.win 3).blk t).view.emb y) 1 : ℕ) = y 1 := by blk_simp [idx t]; try omega
  pointwise [k0_pay1, fts]
  by_cases h : (y 1 : ℕ) < 64
  · rw [dif_pos h, dif_pos (lt_of_eq_of_lt e h)]
    blk_point [iblk0, idx t]
  · rw [dif_neg h, dif_neg (fun h' => h (lt_of_eq_of_lt e.symm h'))]
    blk_point [iblk0, idx t]

/-- After the first kernel the feature array is whole. -/
theorem final (c : Dev nD) : (dat0 V c).arrAt 3 cfg0.N = fts (V c main_v0) (V c main_v1) (V c main_v3) := by
  refine (dat0 V c).arrAt_eq_of_covers 3 _ (by decide +kernel) fun t _ y => ?_
  blk_simp
  rw [after0_3]; frame_out
  exact point V c t y

end Cert.Proof.Fts
-- ==== Proof.Formula.lean ====
module

public import proofs.«01_k».proof.KernelIdeal
public import Idealize.ShloMosaic.Lib.Pipeline.ValueKit

@[expose] public section

set_option maxRecDepth 16384

noncomputable section

namespace Cert.Proof.Formula

open Idealize.ShloMosaic
open Cert.KernelIdeal

/-- The parametric rectifier with slope `a`. -/
def prelu (a z : EReal) : EReal := if 0 < z then z else a * z

/-- One graph convolution at node `n`, channel `o`: the features `X` projected by `W`, aggregated along row `n` of the
    adjacency `A`, the bias `b` added, rectified with slope `a`. -/
def hid (X : FVec Ideal S1x10000x128 .f32) (A : FVec Ideal S1x10000x10000 .f32) (W : FVec Ideal S64x128 .f32)
    (b : FVec Ideal S64 .f32) (a : FVec Ideal S_ .f32) (n : Fin 10000) (o : Fin 64) : EReal :=
  prelu (a ix0) (∑ k : Fin 10000, A (ix3 0 n k) * (∑ l : Fin 128, X (ix3 0 k l) * W (ix2 o l)) + b (ix1 o))

/-- The summary of the graph at channel `j`: the logistic function of the mean over all nodes. -/
def gate (X : FVec Ideal S1x10000x128 .f32) (A : FVec Ideal S1x10000x10000 .f32) (W : FVec Ideal S64x128 .f32)
    (b : FVec Ideal S64 .f32) (a : FVec Ideal S_ .f32) (j : Fin 64) : EReal :=
  Ideal.logistic ((∑ n : Fin 10000, hid X A W b a n j) * ((1 / 10000 : ℝ) : EReal))

/-- The bilinear form's matrix `M` applied to the summary of `X`. -/
def aim (X : FVec Ideal S1x10000x128 .f32) (A : FVec Ideal S1x10000x10000 .f32) (W : FVec Ideal S64x128 .f32)
    (b : FVec Ideal S64 .f32) (a : FVec Ideal S_ .f32) (M : FVec Ideal S1x64x64 .f32) (i : Fin 64) : EReal :=
  ∑ j : Fin 64, gate X A W b a j * M (ix3 0 i j)

/-- The logit of node `n` of the features `Y` against the summary of the features `X`. -/
def logit (X Y : FVec Ideal S1x10000x128 .f32) (A : FVec Ideal S1x10000x10000 .f32) (W : FVec Ideal S64x128 .f32)
    (b : FVec Ideal S64 .f32) (a : FVec Ideal S_ .f32) (M : FVec Ideal S1x64x64 .f32) (d : FVec Ideal S1 .f32)
    (e : FVec Ideal S1x10000 .f32) (n : Fin 10000) : EReal :=
  ∑ j : Fin 64, hid Y A W b a n j * aim X A W b a M j + d (ix1 0) + e (ix2 0 n)

/-- All logits in a row: those of `X` itself, then those of `Y`. -/
def logits (X Y : FVec Ideal S1x10000x128 .f32) (A : FVec Ideal S1x10000x10000 .f32) (W : FVec Ideal S64x128 .f32)
    (b : FVec Ideal S64 .f32) (a : FVec Ideal S_ .f32) (M : FVec Ideal S1x64x64 .f32) (d : FVec Ideal S1 .f32)
    (e f : FVec Ideal S1x10000 .f32) : FVec Ideal S1x20000 .f32 :=
  fun i => if h : (i 1 : ℕ) < 10000 then logit X X A W b a M d e ⟨i 1, h⟩
    else logit X Y A W b a M d f ⟨(i 1 : ℕ) - 10000, by have := (i 1).isLt; simp at this; omega⟩

/-- The first graph convolution as an array, nodes by channels. -/
def nodes (X : FVec Ideal S1x10000x128 .f32) (A : FVec Ideal S1x10000x10000 .f32) (W : FVec Ideal S64x128 .f32)
    (b : FVec Ideal S64 .f32) (a : FVec Ideal S_ .f32) : FVec Ideal S10000x64 .f32 :=
  fun i => hid X A W b a (i 0) (i 1)

/-- Equal arguments give equal rows of logits. -/
theorem logits_congr {X X' Y Y' : FVec Ideal S1x10000x128 .f32} {A A' : FVec Ideal S1x10000x10000 .f32} {W W' : FVec Ideal S64x128 .f32}
    {b b' : FVec Ideal S64 .f32} {a a' : FVec Ideal S_ .f32} {M M' : FVec Ideal S1x64x64 .f32} {d d' : FVec Ideal S1 .f32}
    {e e' f f' : FVec Ideal S1x10000 .f32} (hX : X = X') (hY : Y = Y') (hA : A = A') (hW : W = W') (hb : b = b') (ha : a = a')
    (hM : M = M') (hd : d = d') (he : e = e') (hf : f = f') : logits X Y A W b a M d e f = logits X' Y' A' W' b' a' M' d' e' f' := by
  rw [hX, hY, hA, hW, hb, ha, hM, hd, he, hf]

/-- Equal arguments give equal hidden arrays. -/
theorem nodes_congr {X X' : FVec Ideal S1x10000x128 .f32} {A A' : FVec Ideal S1x10000x10000 .f32} {W W' : FVec Ideal S64x128 .f32}
    {b b' : FVec Ideal S64 .f32} {a a' : FVec Ideal S_ .f32} (hX : X = X') (hA : A = A') (hW : W = W') (hb : b = b') (ha : a = a') :
    nodes X A W b a = nodes X' A' W' b' a' := by
  rw [hX, hA, hW, hb, ha]

end Cert.Proof.Formula
-- ==== Proof.Agg.lean ====
module

public import proofs.«01_k».proof.Proof.Gen.KernelIdeal.Frame
public import proofs.«01_k».proof.Proof.Formula
public import Idealize.ShloMosaic.Lib.Pipeline.ValueKit

@[expose] public section

set_option maxRecDepth 16384

noncomputable section

namespace Cert.Proof.Agg

open Idealize.ShloMosaic Idealize.ShloMosaic.TcCoe Idealize.SL.Sem
open Idealize.ShloMosaic.Pipeline (Dat)
open Cert.KernelIdeal Cert.KernelIdeal.Gen Cert.Proof.Formula

/-- The hidden array: row `i` of `A` against column `j` of the features `G`, the bias of column `j` (row 0 of `B`) added,
    rectified with the slope of column `j` (row 1 of `B`). -/
def hidden (A : FVec Ideal S10000x10000 .f32) (G : FVec Ideal S10000x128 .f32) (B : FVec Ideal S2x128 .f32)
    (i : Fin 10000) (j : Fin 128) : EReal :=
  prelu (B (ix2 1 j)) (∑ k : Fin 10000, A (ix2 i k) * G (ix2 k j) + B (ix2 0 j))

/-- The block each window is at, at every grid point. -/
theorem idx : ∀ t : Fin cfg1.N, win1_0.index t = ![0, 0] ∧ win1_1.index t = ![0, 0] ∧ win1_2.index t = ![t.val, 0]
    ∧ win1_3.index t = ![t.val, 0] ∧ win1_4.index t = ![t.val, 0] ∧ win1_5.index t = ![0, 0] :=
  (by decide +kernel : ∀ t : Fin grid1.N, _)

variable (V : (c : Dev nD) → (b : Ref sig .tc) → Buf (Elt Ideal) ((c : Thread nD τ).loc b))

/-- Column `j` of the left half, as a column of the whole. -/
def lcol (j : Fin 64) : Fin 128 := ⟨j.val, by omega⟩

/-- Column `j` of the right half, as a column of the whole. -/
def rcol (j : Fin 64) : Fin 128 := ⟨64 + j.val, by omega⟩

/-- Row `y` of grid point `t`'s block of 80 rows, as a row of the whole array. -/
def row (t : Fin cfg1.N) (y : Fin 80) : Fin 10000 :=
  ⟨t.val * 80 + y.val, by have := t.isLt; have := y.isLt; have h : cfg1.N = 125 := N_1; omega⟩

/-- The left half of the block computed at point `t` is the left half of the hidden array's rows there. -/
theorem block_left (c : Dev nD) (t : Fin cfg1.N) (y : S80x64.Idx) :
    k1_pay3 (F := Ideal) (iblk1 V c 2 t) (iblk1 V c 0 t) (View.ld (iblk1 V c 1 t) (Rect.unit ![0, 0] ![1, 128] inb_S2x128_S1x128_0_0))
      (View.ld (iblk1 V c 1 t) (Rect.unit ![1, 0] ![1, 128] inb_S2x128_S1x128_1_0)) y
      = hidden (V c main_v2) (V c main_v9) (V c main_v8) (row t (y 0)) (lcol (y 1)) := by
  pointwise [k1_pay3, k1_pay2, hidden, prelu]
  blk_point [iblk1, row, lcol, rcol, idx t]

/-- The right half of the block computed at point `t` is the right half of the hidden array's rows there. -/
theorem block_right (c : Dev nD) (t : Fin cfg1.N) (y : S80x64.Idx) :
    k1_pay4 (F := Ideal) (iblk1 V c 2 t) (iblk1 V c 0 t) (View.ld (iblk1 V c 1 t) (Rect.unit ![0, 0] ![1, 128] inb_S2x128_S1x128_0_0))
      (View.ld (iblk1 V c 1 t) (Rect.unit ![1, 0] ![1, 128] inb_S2x128_S1x128_1_0)) y
      = hidden (V c main_v2) (V c main_v9) (V c main_v8) (row t (y 0)) (rcol (y 1)) := by
  pointwise [k1_pay4, k1_pay2, hidden, prelu]
  blk_point [iblk1, row, lcol, rcol, idx t]

/-- The zero fill of the running sum. -/
theorem zero_fill (j) : k1_pay1 (F := Ideal) j = 0 := by pointwise [k1_pay1]

/-- A grid point adds its block's column sums to the running sum. -/
theorem acc_step (A : Vec Ideal S80x10000 .f32) (G : Vec Ideal S10000x128 .f32) (b a : Vec Ideal S1x128 .f32) (acc : Vec Ideal S1x64 .f32)
    (j : S1x64.Idx) : k1_pay5 (F := Ideal) A G b a acc j = acc j + ∑ r : Fin 80, k1_pay3 (F := Ideal) A G b a (ix2 r (j 1)) := by
  pointwise [k1_pay5]

/-- After the second kernel its first result is the left half of the hidden array. -/
theorem final_left (c : Dev nD) : (dat1 V c).arrAt 3 cfg1.N
    = fun i : S10000x64.Idx => hidden (V c main_v2) (V c main_v9) (V c main_v8) (i 0) (lcol (i 1)) := by
  refine (dat1 V c).arrAt_eq_of_covers 3 _ (by decide +kernel) fun t _ y => ?_
  blk_simp
  rw [after1_3]
  by_cases h : t.val % 125 = 0
  · rw [outsAt1_A V c t h]; frame_out
    refine (block_left V c _ _).trans ?_
    blk_point [row, lcol, rcol, idx t]
  · rw [outsAt1_B V c t h]; frame_out
    refine (block_left V c _ _).trans ?_
    blk_point [row, lcol, rcol, idx t]

/-- After the second kernel its second result is the right half of the hidden array. -/
theorem final_right (c : Dev nD) : (dat1 V c).arrAt 4 cfg1.N
    = fun i : S10000x64.Idx => hidden (V c main_v2) (V c main_v9) (V c main_v8) (i 0) (rcol (i 1)) := by
  refine (dat1 V c).arrAt_eq_of_covers 4 _ (by decide +kernel) fun t _ y => ?_
  blk_simp
  rw [after1_4]
  by_cases h : t.val % 125 = 0
  · rw [outsAt1_A V c t h]; frame_out
    refine (block_right V c _ _).trans ?_
    blk_point [row, lcol, rcol, idx t]
  · rw [outsAt1_B V c t h]; frame_out
    refine (block_right V c _ _).trans ?_
    blk_point [row, lcol, rcol, idx t]

/-- After the second kernel its third result holds the column sums of the hidden array's left half. -/
theorem final_sum (c : Dev nD) : (dat1 V c).arrAt 5 cfg1.N
    = fun i : S1x64.Idx => ∑ n : Fin 10000, hidden (V c main_v2) (V c main_v9) (V c main_v8) n (lcol (i 1)) := by
  refine (dat1 V c).arrAt_eq_of_covers 5 _ (by decide +kernel) fun t hf y => ?_
  blk_simp
  rw [after1_5, Pipeline.eq_sum_fin_of_reset_step_apply_of_flush (fun n h => (outsAt1 V c n h).2.2) 125 (fun _ => 0) _
    (fun t h j => by rw [outsAt1_A V c t h]; frame_out; rw [acc_step, zero_fill])
    (fun t h j => by rw [outsAt1_B V c t h]; frame_out; rw [acc_step])
    t ((flush1_5 t).mp hf) _, zero_add]
  refine Fin.sum_mul_add_congr fun s k hl => ?_
  refine (block_left V c _ _).trans ?_
  blk_point [row, lcol, rcol, idx t]

end Cert.Proof.Agg
-- ==== Proof.Disc.lean ====
module

public import proofs.«01_k».proof.Proof.Gen.KernelIdeal.Frame
public import Idealize.ShloMosaic.Lib.Pipeline.ValueKit

@[expose] public section

set_option maxRecDepth 16384

noncomputable section

namespace Cert.Proof.Disc

open Idealize.ShloMosaic Idealize.ShloMosaic.TcCoe Idealize.SL.Sem
open Idealize.ShloMosaic.Pipeline (Dat)
open Cert.KernelIdeal Cert.KernelIdeal.Gen

/-- The block each window is at, at every grid point. -/
theorem idx : ∀ t : Fin cfg2.N, win2_0.index t = ![0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![0, 0] :=
  (by decide +kernel : ∀ t : Fin grid2.N, _)

/-- The summary vector turned into the direction the rows are scored against: the column sums `s` scaled by `1/10000`,
    squashed, times the matrix `W`. -/
def direction (s : FVec Ideal S1x64 .f32) (W : FVec Ideal S64x64 .f32) (i : Fin 64) : EReal :=
  ∑ j : Fin 64, Ideal.logistic (s (ix2 0 j) * ((1 / 10000 : ℝ) : EReal)) * W (ix2 j i)

/-- The score of row `n` of `H`: its product with the direction, plus the scalar `b`, plus the row's own offset `e`. -/
def score (s : FVec Ideal S1x64 .f32) (W : FVec Ideal S64x64 .f32) (b : FVec Ideal S1x1 .f32) (H : FVec Ideal S10000x64 .f32)
    (e : FVec Ideal S10000x1 .f32) (n : Fin 10000) : EReal :=
  ∑ j : Fin 64, H (ix2 n j) * direction s W j + b (ix2 0 0) + e (ix2 n 0)

/-- The named constant of the idealized kernel denotes `1/10000`. -/
theorem inv_n_eq : Named.named (F := Ideal) (φ := .f32) κ "inv_n" 0x38D1B717#32 = ((1 / 10000 : ℝ) : EReal) :=
  IdealRules.named_const.ideal_named_scalar κ "inv_n" _ _ rfl

/-- The third kernel's first stored value at row `i` is that row's score. -/
theorem pay_first (s : Vec Ideal S1x64 .f32) (W : Vec Ideal S64x64 .f32) (b : Vec Ideal S1x1 .f32) (H : Vec Ideal S10000x64 .f32)
    (e : Vec Ideal S10000x1 .f32) (i : S10000x1.Idx) : k2_pay3 (F := Ideal) s W b H e i = score s W b H e (i 0) := by
  pointwise [k2_pay3, k2_pay1, k2_pay2, score, direction]
  rw [inv_n_eq]
  blk_point []

/-- The third kernel's second stored value at row `i` is that row's score. -/
theorem pay_second (s : Vec Ideal S1x64 .f32) (W : Vec Ideal S64x64 .f32) (b : Vec Ideal S1x1 .f32) (H : Vec Ideal S10000x64 .f32)
    (e : Vec Ideal S10000x1 .f32) (i : S10000x1.Idx) : k2_pay4 (F := Ideal) s W b H e i = score s W b H e (i 0) := by
  pointwise [k2_pay4, k2_pay1, k2_pay2, score, direction]
  rw [inv_n_eq]
  blk_point []

variable (V : (c : Dev nD) → (b : Ref sig .tc) → Buf (Elt Ideal) ((c : Thread nD τ).loc b))

/-- After the third kernel its first result holds the scores of the first hidden array's rows. -/
theorem final_first (c : Dev nD) : (dat2 V c).arrAt 7 cfg2.N
    = fun i : S10000x1.Idx => score (V c main_v10_2) (V c main_v14) (V c main_v15) (V c main_v10_0) (V c main_v11) (i 0) := by
  refine ((dat2 V c).arrAt_eq_of_after_last 7 t2_0 (by decide +kernel)
    (k2_pay3 (F := Ideal) (V c main_v10_2) (V c main_v14) (V c main_v15) (V c main_v10_0) (V c main_v11)) fun j => ?_).trans
    (funext fun i => pay_first _ _ _ _ _ i)
  blk_simp
  rw [after2_7]; frame_out
  blk_point [iblk2, idx t2_0]

/-- After the third kernel its second result holds the scores of the second hidden array's rows. -/
theorem final_second (c : Dev nD) : (dat2 V c).arrAt 8 cfg2.N
    = fun i : S10000x1.Idx => score (V c main_v10_2) (V c main_v14) (V c main_v15) (V c main_v10_1) (V c main_v12) (i 0) := by
  refine ((dat2 V c).arrAt_eq_of_after_last 8 t2_0 (by decide +kernel)
    (k2_pay4 (F := Ideal) (V c main_v10_2) (V c main_v14) (V c main_v15) (V c main_v10_1) (V c main_v12)) fun j => ?_).trans
    (funext fun i => pay_second _ _ _ _ _ i)
  blk_simp
  rw [after2_8]; frame_out
  blk_point [iblk2, idx t2_0]

end Cert.Proof.Disc
-- ==== Proof.Host.lean ====
module

public import proofs.«01_k».proof.Proof.Gen.KernelIdeal.Frame
public import proofs.«01_k».proof.Proof.Formula
public import Idealize.ShloMosaic.Lib.Pipeline.ValueKit
public import Idealize.ShloMosaic.Lib.StableHlo.Run

@[expose] public section

set_option maxRecDepth 16384

noncomputable section

namespace Cert.Proof.Host

open Idealize.ShloMosaic Idealize.ShloMosaic.TcCoe Idealize.SL.Sem Idealize.ShloMosaic.StableHlo
open Cert.KernelIdeal Cert.KernelIdeal.Gen Cert.Proof.Formula

variable (m : (ℓ : Loc nD τ sig) → Buf (Elt Ideal) ℓ) (ρ : Dev nD → PrngReg) (c : Dev nD)

/-- Argument `r` as launched on device `c`. -/
abbrev arg (r : Ref sig .tc) : Buf (Elt Ideal) ((c : Thread nD τ).loc r) := m ((c : Thread nD τ).loc r)

/-- Entering the first kernel: the first features, without the leading axis of one. -/
theorem entry_X : V1 m ρ c main_v0 = shapeCast S10000x128 (arg m c main_arg0) shapeCasts_S1x10000x128_S10000x128 := by
  show StableHlo.after hostOps0 (W0 m ρ c) (Proc.devRef .tc main_v0) = _
  after_results_simp <;> rfl

/-- Entering the first kernel: the second features, without the leading axis of one. -/
theorem entry_Y : V1 m ρ c main_v1 = shapeCast S10000x128 (arg m c main_arg1) shapeCasts_S1x10000x128_S10000x128 := by
  show StableHlo.after hostOps0 (W0 m ρ c) (Proc.devRef .tc main_v1) = _
  after_results_simp <;> rfl

/-- Entering the first kernel: the projection weights, transposed. -/
theorem entry_W : V1 m ρ c main_v3 = transpose S128x64 [1, 0] (arg m c main_arg6) transposes_S64x128_S128x64_1_0 := by
  show StableHlo.after hostOps0 (W0 m ρ c) (Proc.devRef .tc main_v3) = _
  after_results_simp <;> rfl

/-- Entering the second kernel: the adjacency, without the leading axis of one. -/
theorem entry_A : V2 m ρ c main_v2 = shapeCast S10000x10000 (arg m c main_arg2) shapeCasts_S1x10000x10000_S10000x10000 := by
  refine (W2_of m ρ c main_v2 (by decide +kernel)).trans ?_
  show StableHlo.after hostOps0 (W0 m ρ c) (Proc.devRef .tc main_v2) = _
  after_results_simp <;> rfl

/-- Entering the second kernel: the bias twice in row 0, the slope in every column of row 1. -/
theorem entry_B : V2 m ρ c main_v8 =
    concatenate S2x128 0 [⟨S1x128, broadcastInDim S1x128 ![1] bcast_S128_S1x128_1
        (concatenate S128 0 [⟨S64, arg m c main_arg7⟩, ⟨S64, arg m c main_arg7⟩] concatenates_S64_S64_S128_d0)⟩,
      ⟨S1x128, broadcastInDim S1x128 ![1] bcast_S128_S1x128_1 (broadcastInDim S128 ![] bcast_S_S128 (arg m c main_arg8))⟩]
      concatenates_S1x128_S1x128_S2x128_d0 := by
  refine (W2_of m ρ c main_v8 (by decide +kernel)).trans ?_
  show StableHlo.after hostOps0 (W0 m ρ c) (Proc.devRef .tc main_v8) = _
  after_results_simp <;> rfl

/-- Entering the third kernel: the first offsets as a column. -/
theorem entry_e : V4 m ρ c main_v11 = shapeCast S10000x1 (arg m c main_arg4) shapeCasts_S1x10000_S10000x1 := by
  show StableHlo.after hostOps2 (W3 m ρ c) (Proc.devRef .tc main_v11) = _
  after_results_simp <;> (try rw [W3_args m ρ c main_arg4 (by decide)]) <;> rfl

/-- Entering the third kernel: the second offsets as a column. -/
theorem entry_f : V4 m ρ c main_v12 = shapeCast S10000x1 (arg m c main_arg5) shapeCasts_S1x10000_S10000x1 := by
  show StableHlo.after hostOps2 (W3 m ρ c) (Proc.devRef .tc main_v12) = _
  after_results_simp <;> (try rw [W3_args m ρ c main_arg5 (by decide)]) <;> rfl

/-- Entering the third kernel: the bilinear form's matrix, transposed. -/
theorem entry_M : V4 m ρ c main_v14 = transpose S64x64 [1, 0]
    (shapeCast S64x64 (arg m c main_arg9) shapeCasts_S1x64x64_S64x64) transposes_S64x64_S64x64_1_0 := by
  show StableHlo.after hostOps2 (W3 m ρ c) (Proc.devRef .tc main_v14) = _
  after_results_simp <;> (try rw [W3_args m ρ c main_arg9 (by decide)]) <;> rfl

/-- Entering the third kernel: the bilinear form's offset. -/
theorem entry_d : V4 m ρ c main_v15 = shapeCast S1x1 (arg m c main_arg10) shapeCasts_S1_S1x1 := by
  show StableHlo.after hostOps2 (W3 m ρ c) (Proc.devRef .tc main_v15) = _
  after_results_simp <;> (try rw [W3_args m ρ c main_arg10 (by decide)]) <;> rfl

/-- What the second kernel leaves in its first result is what the third kernel reads there. -/
theorem entry_H : V4 m ρ c main_v10_0 = (dat1 (V2 m ρ) c).arrAt 3 cfg1.N :=
  (W4_of m ρ c main_v10_0 (by decide)).trans (W3_arr m ρ c 3)

/-- The same for the second result. -/
theorem entry_K : V4 m ρ c main_v10_1 = (dat1 (V2 m ρ) c).arrAt 4 cfg1.N :=
  (W4_of m ρ c main_v10_1 (by decide)).trans (W3_arr m ρ c 4)

/-- The same for the third result. -/
theorem entry_S : V4 m ρ c main_v10_2 = (dat1 (V2 m ρ) c).arrAt 5 cfg1.N :=
  (W4_of m ρ c main_v10_2 (by decide)).trans (W3_arr m ρ c 5)

/-- The feature array the second kernel reads is what the first kernel left. -/
theorem entry_G : V2 m ρ c main_v9 = (dat0 (V1 m ρ) c).arrAt 3 cfg0.N := W2_arr m ρ c 3

/-- The hidden array returned is what the second kernel left in its first result. -/
theorem exit_H : W6 m ρ c (Proc.devRef .tc main_v10_0) = (dat1 (V2 m ρ) c).arrAt 3 cfg1.N :=
  (W6_of m ρ c main_v10_0 (by decide)).trans ((W5_of m ρ c main_v10_0 (by decide +kernel)).trans (entry_H m ρ c))

/-- The logits returned are the third kernel's two columns of scores laid end to end in one row. -/
theorem exit_L : W6 m ρ c (Proc.devRef .tc main_v20) =
    broadcastInDim S1x20000 ![1] bcast_S20000_S1x20000_1
      (concatenate S20000 0 [⟨S10000, shapeCast S10000 ((dat2 (V4 m ρ) c).arrAt 7 cfg2.N) shapeCasts_S10000x1_S10000⟩,
        ⟨S10000, shapeCast S10000 ((dat2 (V4 m ρ) c).arrAt 8 cfg2.N) shapeCasts_S10000x1_S10000⟩] concatenates_S10000_S10000_S20000_d0) := by
  rw [← W5_arr m ρ c 7, ← W5_arr m ρ c 8]
  show StableHlo.after hostOps3 (W5 m ρ c) (Proc.devRef .tc main_v20) = _
  after_results_simp <;> rfl

end Cert.Proof.Host
-- ==== Proof.Value.lean ====
module

public import proofs.«01_k».proof.Proof.Fts
public import proofs.«01_k».proof.Proof.Agg
public import proofs.«01_k».proof.Proof.Disc
public import proofs.«01_k».proof.Proof.Host

@[expose] public section

set_option maxRecDepth 16384

noncomputable section

namespace Cert.Proof.Value

open Idealize.ShloMosaic Idealize.ShloMosaic.TcCoe
open Cert.KernelIdeal Cert.KernelIdeal.Gen Cert.Proof.Formula Cert.Proof.Fts Cert.Proof.Agg Cert.Proof.Disc Cert.Proof.Host

section Arrays

variable (X Y : FVec Ideal S1x10000x128 .f32) (A : FVec Ideal S1x10000x10000 .f32) (W : FVec Ideal S64x128 .f32)
  (b : FVec Ideal S64 .f32) (a : FVec Ideal S_ .f32) (M : FVec Ideal S1x64x64 .f32) (d : FVec Ideal S1 .f32)
  (e f : FVec Ideal S1x10000 .f32)

/-- Both feature arrays projected, side by side, from the arguments. -/
def proj : FVec Ideal S10000x128 .f32 :=
  fts (shapeCast S10000x128 X shapeCasts_S1x10000x128_S10000x128) (shapeCast S10000x128 Y shapeCasts_S1x10000x128_S10000x128)
    (transpose S128x64 [1, 0] W transposes_S64x128_S128x64_1_0)

/-- Bias over slope, from the arguments. -/
def affine : FVec Ideal S2x128 .f32 :=
  concatenate S2x128 0 [⟨S1x128, broadcastInDim S1x128 ![1] bcast_S128_S1x128_1
      (concatenate S128 0 [⟨S64, b⟩, ⟨S64, b⟩] concatenates_S64_S64_S128_d0)⟩,
    ⟨S1x128, broadcastInDim S1x128 ![1] bcast_S128_S1x128_1 (broadcastInDim S128 ![] bcast_S_S128 a)⟩]
    concatenates_S1x128_S1x128_S2x128_d0

/-- The left half of the projected features is the projection of `X`. -/
theorem proj_left (k : Fin 10000) (o : Fin 64) : proj X Y W (ix2 k (lcol o)) = ∑ l : Fin 128, X (ix3 0 k l) * W (ix2 o l) := by
  pointwise [proj, fts, lcol]

/-- The right half of the projected features is the projection of `Y`. -/
theorem proj_right (k : Fin 10000) (o : Fin 64) : proj X Y W (ix2 k (rcol o)) = ∑ l : Fin 128, Y (ix3 0 k l) * W (ix2 o l) := by
  pointwise [proj, fts, rcol]

/-- Row 0 holds the bias in its left half. -/
theorem bias_left (o : Fin 64) : affine b a (ix2 0 (lcol o)) = b (ix1 o) := by
  pointwise [affine, lcol]

/-- Row 0 holds the bias again in its right half. -/
theorem bias_right (o : Fin 64) : affine b a (ix2 0 (rcol o)) = b (ix1 o) := by
  pointwise [affine, rcol]

/-- Row 1 holds the slope everywhere. -/
theorem slope_at (o : Fin 128) : affine b a (ix2 1 o) = a ix0 := by
  pointwise [affine]

/-- The adjacency without its leading axis of one. -/
theorem adj_at (n k : Fin 10000) :
    shapeCast S10000x10000 A shapeCasts_S1x10000x10000_S10000x10000 (ix2 n k) = A (ix3 0 n k) := by
  pointwise []

/-- The left half of the aggregated array is the graph convolution of `X`. -/
theorem hidden_left (n : Fin 10000) (o : Fin 64) :
    Agg.hidden (shapeCast S10000x10000 A shapeCasts_S1x10000x10000_S10000x10000) (proj X Y W) (affine b a) n (lcol o) = hid X A W b a n o := by
  simp only [Agg.hidden, hid, proj_left, bias_left, slope_at, adj_at]

/-- The right half of the aggregated array is the graph convolution of `Y`. -/
theorem hidden_right (n : Fin 10000) (o : Fin 64) :
    Agg.hidden (shapeCast S10000x10000 A shapeCasts_S1x10000x10000_S10000x10000) (proj X Y W) (affine b a) n (rcol o) = hid Y A W b a n o := by
  simp only [Agg.hidden, hid, proj_right, bias_right, slope_at, adj_at]

/-- The offsets as a column. -/
theorem col_at (n : Fin 10000) : shapeCast S10000x1 e shapeCasts_S1x10000_S10000x1 (ix2 n 0) = e (ix2 0 n) := by
  pointwise []

/-- The bilinear form's matrix, transposed. -/
def turned : FVec Ideal S64x64 .f32 :=
  transpose S64x64 [1, 0] (shapeCast S64x64 M shapeCasts_S1x64x64_S64x64) transposes_S64x64_S64x64_1_0

/-- The transposed matrix, entry by entry. -/
theorem turned_at (j i : Fin 64) : turned M (ix2 j i) = M (ix3 0 i j) := by
  pointwise [turned]

/-- The bilinear form's offset as a one by one array. -/
theorem off_at : shapeCast S1x1 d shapeCasts_S1_S1x1 (ix2 0 0) = d (ix1 0) := by
  pointwise []

/-- Two columns of scores laid end to end in one row, entry by entry. -/
theorem row_at (p q : FVec Ideal S10000x1 .f32) (i : S1x20000.Idx) :
    broadcastInDim S1x20000 ![1] bcast_S20000_S1x20000_1
      (concatenate S20000 0 [⟨S10000, shapeCast S10000 p shapeCasts_S10000x1_S10000⟩,
        ⟨S10000, shapeCast S10000 q shapeCasts_S10000x1_S10000⟩] concatenates_S10000_S10000_S20000_d0) i =
      if h : (i 1 : ℕ) < 10000 then p (ix2 ⟨i 1, h⟩ 0)
      else q (ix2 ⟨(i 1 : ℕ) - 10000, by have := (i 1).isLt; simp at this; omega⟩ 0) := by
  pointwise []

end Arrays

variable (m : (ℓ : Loc nD τ sig) → Buf (Elt Ideal) ℓ) (ρ : Dev nD → PrngReg) (c : Dev nD)

/-- The projected features the second kernel reads. -/
theorem feat_eq : V2 m ρ c main_v9 = proj (arg m c main_arg0) (arg m c main_arg1) (arg m c main_arg6) := by
  refine (entry_G m ρ c).trans ((Fts.final (V1 m ρ) c).trans ?_)
  rw [entry_X, entry_Y, entry_W]
  rfl

/-- The second kernel's first result: the graph convolution of the first features. -/
theorem first_eq : (dat1 (V2 m ρ) c).arrAt 3 cfg1.N =
    nodes (arg m c main_arg0) (arg m c main_arg2) (arg m c main_arg6) (arg m c main_arg7) (arg m c main_arg8) := by
  refine (Agg.final_left (V2 m ρ) c).trans ?_
  rw [entry_A, entry_B, feat_eq]
  exact funext fun i => hidden_left _ _ _ _ _ _ _ _

/-- The second kernel's second result: the graph convolution of the second features. -/
theorem second_eq : (dat1 (V2 m ρ) c).arrAt 4 cfg1.N =
    nodes (arg m c main_arg1) (arg m c main_arg2) (arg m c main_arg6) (arg m c main_arg7) (arg m c main_arg8) := by
  refine (Agg.final_right (V2 m ρ) c).trans ?_
  rw [entry_A, entry_B, feat_eq]
  exact funext fun i => hidden_right _ _ _ _ _ _ _ _

/-- The sums over all nodes of the graph convolution `X`. -/
def total (X : FVec Ideal S1x10000x128 .f32) (A : FVec Ideal S1x10000x10000 .f32) (W : FVec Ideal S64x128 .f32)
    (b : FVec Ideal S64 .f32) (a : FVec Ideal S_ .f32) : FVec Ideal S1x64 .f32 :=
  fun i => ∑ n : Fin 10000, hid X A W b a n (i 1)

/-- The second kernel's third result: the sums over all nodes of the first graph convolution. -/
theorem third_eq : (dat1 (V2 m ρ) c).arrAt 5 cfg1.N =
    total (arg m c main_arg0) (arg m c main_arg2) (arg m c main_arg6) (arg m c main_arg7) (arg m c main_arg8) := by
  refine (Agg.final_sum (V2 m ρ) c).trans ?_
  rw [entry_A, entry_B, feat_eq]
  exact funext fun i => Finset.sum_congr rfl fun n _ => hidden_left _ _ _ _ _ _ _ _

/-- A node's score in terms of the arguments is its logit. -/
theorem score_logit (X Y : FVec Ideal S1x10000x128 .f32) (A : FVec Ideal S1x10000x10000 .f32) (W : FVec Ideal S64x128 .f32)
    (b : FVec Ideal S64 .f32) (a : FVec Ideal S_ .f32) (M : FVec Ideal S1x64x64 .f32) (d : FVec Ideal S1 .f32)
    (e : FVec Ideal S1x10000 .f32) (n : Fin 10000) :
    score (total X A W b a) (turned M) (shapeCast S1x1 d shapeCasts_S1_S1x1) (nodes Y A W b a) (shapeCast S10000x1 e shapeCasts_S1x10000_S10000x1) n =
      logit X Y A W b a M d e n := by
  simp only [score, direction, turned_at, off_at, col_at]
  rfl

/-- The third kernel's first result: the logits of the first features. -/
theorem score_first (n : Fin 10000) : ((dat2 (V4 m ρ) c).arrAt 7 cfg2.N : FVec Ideal S10000x1 .f32) (ix2 n 0) =
    logit (arg m c main_arg0) (arg m c main_arg0) (arg m c main_arg2) (arg m c main_arg6) (arg m c main_arg7) (arg m c main_arg8)
      (arg m c main_arg9) (arg m c main_arg10) (arg m c main_arg4) n := by
  refine (congrFun (Disc.final_first (V4 m ρ) c) _).trans ?_
  rw [entry_S, entry_H, entry_M, entry_d, entry_e, first_eq, third_eq]
  exact score_logit _ _ _ _ _ _ _ _ _ _

/-- The third kernel's second result: the logits of the second features. -/
theorem score_second (n : Fin 10000) : ((dat2 (V4 m ρ) c).arrAt 8 cfg2.N : FVec Ideal S10000x1 .f32) (ix2 n 0) =
    logit (arg m c main_arg0) (arg m c main_arg1) (arg m c main_arg2) (arg m c main_arg6) (arg m c main_arg7) (arg m c main_arg8)
      (arg m c main_arg9) (arg m c main_arg10) (arg m c main_arg5) n := by
  refine (congrFun (Disc.final_second (V4 m ρ) c) _).trans ?_
  rw [entry_S, entry_K, entry_M, entry_d, entry_f, second_eq, third_eq]
  exact score_logit _ _ _ _ _ _ _ _ _ _

/-- The kernel's first result is the formula's row of logits. -/
theorem logits_eq : W6 m ρ c (Proc.devRef .tc main_v20) =
    logits (arg m c main_arg0) (arg m c main_arg1) (arg m c main_arg2) (arg m c main_arg6) (arg m c main_arg7) (arg m c main_arg8)
      (arg m c main_arg9) (arg m c main_arg10) (arg m c main_arg4) (arg m c main_arg5) := by
  refine (exit_L m ρ c).trans (funext fun i => (row_at _ _ i).trans ?_)
  simp only [score_first, score_second]
  rfl

/-- The kernel's second result is the formula's hidden array. -/
theorem nodes_eq : W6 m ρ c (Proc.devRef .tc main_v10_0) =
    nodes (arg m c main_arg0) (arg m c main_arg2) (arg m c main_arg6) (arg m c main_arg7) (arg m c main_arg8) :=
  (exit_H m ρ c).trans (first_eq m ρ c)

end Cert.Proof.Value
-- ==== Proof.Launch.lean ====
module

public import proofs.«01_k».proof.Proof.Value

@[expose] public section

set_option maxRecDepth 16384

noncomputable section

namespace Cert.Proof.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Proof.Formula Cert.Proof.Host

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the kernel ends with the formula's row of logits and the formula's hidden array in its two results,
    and with its arguments as they were. -/
theorem run : θ_run defs (onTc (τ := τ) (main (F := Ideal))) ⟨m, fun _ => 0, ρ⟩ (fun r => ∀ c : Dev nD,
      r.2.mem ((c.tc : Thread nD τ).loc main_v20) =
        logits (arg m c main_arg0) (arg m c main_arg1) (arg m c main_arg2) (arg m c main_arg6) (arg m c main_arg7) (arg m c main_arg8)
          (arg m c main_arg9) (arg m c main_arg10) (arg m c main_arg4) (arg m c main_arg5)
      ∧ r.2.mem ((c.tc : Thread nD τ).loc main_v10_0) =
        nodes (arg m c main_arg0) (arg m c main_arg2) (arg m c main_arg6) (arg m c main_arg7) (arg m c main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v20 (by decide))).trans (Value.logits_eq m ρ c),
       (h c _ (mem_uc main_v10_0 (by decide))).trans (Value.nodes_eq m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Proof.Launch
-- ==== Proof.Reference.lean ====
module

public import proofs.«01_k».proof.Proof.Gen.ReferenceIdeal.Run
public import proofs.«01_k».proof.Proof.Formula
public import Idealize.ShloMosaic.Lib.Pipeline.ValueKit

@[expose] public section

set_option maxRecDepth 16384

noncomputable section

namespace Cert.Proof.Reference

open Idealize.ShloMosaic Idealize.SL.Sem
open Cert.ReferenceIdeal Cert.ReferenceIdeal.Gen Cert.Proof.Formula

/-- The affine part of the reference's graph convolution. -/
def pre (X : FVec Ideal S1x10000x128 .f32) (A : FVec Ideal S1x10000x10000 .f32) (W : FVec Ideal S64x128 .f32)
    (b : FVec Ideal S64 .f32) : FVec Ideal S1x10000x64 .f32 :=
  addf (broadcastInDim S1x10000x64 ![1, 2] bcast_S10000x64_S1x10000x64_1_2
      (Host.dotGeneral dot_S10000x10000_S10000x64_S10000x64_1_0_0_1_n_n none
        (shapeCast S10000x10000 A shapeCasts_S1x10000x10000_S10000x10000)
        (shapeCast S10000x64 (Host.dotGeneral dot_S1x10000x128_S64x128_S1x10000x64_2_1_01_0_n_n none X W) shapeCasts_S1x10000x64_S10000x64)))
    (broadcastInDim S1x10000x64 ![0, 1, 2] bcast_S1x1x64_S1x10000x64_0_1_2 (broadcastInDim S1x1x64 ![2] bcast_S64_S1x1x64_2 b))

/-- The reference's graph convolution: the affine part, rectified. -/
def conv (X : FVec Ideal S1x10000x128 .f32) (A : FVec Ideal S1x10000x10000 .f32) (W : FVec Ideal S64x128 .f32)
    (b : FVec Ideal S64 .f32) (a : FVec Ideal S_ .f32) : FVec Ideal S1x10000x64 .f32 :=
  select (cmpf .ogt (pre X A W b) (broadcastInDim S1x10000x64 ![] bcast_S_S1x10000x64 (constant S_ .f32 0x00000000#32)))
    (pre X A W b) (mulf (broadcastInDim S1x10000x64 ![] bcast_S_S1x10000x64 a) (pre X A W b))

/-- The reference's graph convolution, node by node. -/
theorem conv_at (X : FVec Ideal S1x10000x128 .f32) (A : FVec Ideal S1x10000x10000 .f32) (W : FVec Ideal S64x128 .f32)
    (b : FVec Ideal S64 .f32) (a : FVec Ideal S_ .f32) (i : S1x10000x64.Idx) :
    conv X A W b a i = hid X A W b a (i 1) (i 2) := by
  pointwise [conv, pre, hid, prelu]

/-- The reference's summary of the nodes. -/
def gateR (H : FVec Ideal S1x10000x64 .f32) : FVec Ideal S1x64 .f32 :=
  Host.divf (broadcastInDim S1x64 ![] bcast_S_S1x64 (constant S_ .f32 0x3F800000#32))
    (addf (broadcastInDim S1x64 ![] bcast_S_S1x64 (constant S_ .f32 0x3F800000#32))
      (Host.exp (Host.negf (Host.divf (Host.reduceAdd H (constant S_ .f32 0x00000000#32) reducesTo_S1x10000x64_S1x64_d1 h_S_)
        (broadcastInDim S1x64 ![] bcast_S_S1x64 (constant S_ .f32 0x461C4000#32))))))

/-- The constant the mean divides by is ten thousand. -/
theorem count_eq : Ideal.ofBits .f32 0x461C4000#32 = ((10000 : ℝ) : EReal) := by
  simp [Ideal.ofBits, Ideal.ieee]
  rw [← EReal.coe_mul]
  norm_num

/-- The reference's summary is the logistic function of the mean. -/
theorem gateR_at (H : FVec Ideal S1x10000x64 .f32) (i : S1x64.Idx) :
    gateR H i = Ideal.logistic ((∑ n : Fin 10000, H (ix3 0 n (i 1))) * ((1 / 10000 : ℝ) : EReal)) := by
  pointwise [gateR, Ideal.logistic]
  rw [count_eq, Ideal.div_coe (by norm_num)]

/-- The reference's scores of the nodes `H` with the summary `s`, the matrix `M`, the offset `d`, the nodes' offsets `e`. -/
def scoreR (H : FVec Ideal S1x10000x64 .f32) (s : FVec Ideal S1x64 .f32) (M : FVec Ideal S1x64x64 .f32) (d : FVec Ideal S1 .f32)
    (e : FVec Ideal S1x10000 .f32) : FVec Ideal S1x10000 .f32 :=
  addf (addf (Host.dotGeneral dot_S1x10000x64_S1x64_S1x10000_2_1_1_n_0_0 none H
      (Host.dotGeneral dot_S1x64_S64x64_S1x64_1_1_0_0_n_n none s (shapeCast S64x64 M shapeCasts_S1x64x64_S64x64)))
    (broadcastInDim S1x10000 ![] bcast_S_S1x10000 (shapeCast S_ d shapeCasts_S1_S_))) e

/-- The reference's scores, node by node. -/
theorem scoreR_at (H : FVec Ideal S1x10000x64 .f32) (s : FVec Ideal S1x64 .f32) (M : FVec Ideal S1x64x64 .f32) (d : FVec Ideal S1 .f32)
    (e : FVec Ideal S1x10000 .f32) (n : Fin 10000) :
    scoreR H s M d e (ix2 0 n) = ∑ j : Fin 64, H (ix3 0 n j) * (∑ k : Fin 64, s (ix2 0 k) * M (ix3 0 j k)) + d (ix1 0) + e (ix2 0 n) := by
  pointwise [scoreR]

/-- A node's score against the summary of `X` is its logit. -/
theorem score_logit (X Y : FVec Ideal S1x10000x128 .f32) (A : FVec Ideal S1x10000x10000 .f32) (W : FVec Ideal S64x128 .f32)
    (b : FVec Ideal S64 .f32) (a : FVec Ideal S_ .f32) (M : FVec Ideal S1x64x64 .f32) (d : FVec Ideal S1 .f32)
    (e : FVec Ideal S1x10000 .f32) (n : Fin 10000) :
    scoreR (conv Y A W b a) (gateR (conv X A W b a)) M d e (ix2 0 n) = logit X Y A W b a M d e n := by
  rw [scoreR_at]
  simp only [gateR_at, conv_at, logit, aim, gate]
  rfl

/-- Two rows end to end: column by column. -/
theorem row_at (p q : FVec Ideal S1x10000 .f32) (i : S1x20000.Idx) :
    concatenate S1x20000 1 [⟨S1x10000, p⟩, ⟨S1x10000, q⟩] concatenates_S1x10000_S1x10000_S1x20000_d1 i =
      if h : (i 1 : ℕ) < 10000 then p (ix2 0 ⟨i 1, h⟩)
      else q (ix2 0 ⟨(i 1 : ℕ) - 10000, by have := (i 1).isLt; simp at this; omega⟩) := by
  pointwise []

/-- The reference's row of logits in terms of the parts above. -/
theorem out_eq (m : (ℓ : Loc nD τ sig) → Buf (Elt Ideal) ℓ) (c : Dev nD) : Cert.ReferenceIdeal.Value.res_out0 m c =
    let X : FVec Ideal S1x10000x128 .f32 := m ((c.tc : Thread nD τ).loc main_arg0)
    let Y : FVec Ideal S1x10000x128 .f32 := m ((c.tc : Thread nD τ).loc main_arg1)
    let A : FVec Ideal S1x10000x10000 .f32 := m ((c.tc : Thread nD τ).loc main_arg2)
    let W : FVec Ideal S64x128 .f32 := m ((c.tc : Thread nD τ).loc main_arg6)
    let b : FVec Ideal S64 .f32 := m ((c.tc : Thread nD τ).loc main_arg7)
    let a : FVec Ideal S_ .f32 := m ((c.tc : Thread nD τ).loc main_arg8)
    let M : FVec Ideal S1x64x64 .f32 := m ((c.tc : Thread nD τ).loc main_arg9)
    let d : FVec Ideal S1 .f32 := m ((c.tc : Thread nD τ).loc main_arg10)
    concatenate S1x20000 1 [⟨S1x10000, scoreR (conv X A W b a) (gateR (conv X A W b a)) M d (m ((c.tc : Thread nD τ).loc main_arg4))⟩,
      ⟨S1x10000, scoreR (conv Y A W b a) (gateR (conv X A W b a)) M d (m ((c.tc : Thread nD τ).loc main_arg5))⟩]
      concatenates_S1x10000_S1x10000_S1x20000_d1 := rfl

/-- The reference's row of logits is the formula's. -/
theorem logits_eq (m : (ℓ : Loc nD τ sig) → Buf (Elt Ideal) ℓ) (c : Dev nD) : Cert.ReferenceIdeal.Value.res_out0 m c =
    logits (m ((c.tc : Thread nD τ).loc main_arg0)) (m ((c.tc : Thread nD τ).loc main_arg1)) (m ((c.tc : Thread nD τ).loc main_arg2))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg4))
      (m ((c.tc : Thread nD τ).loc main_arg5)) := by
  refine (out_eq m c).trans (funext fun i => (row_at _ _ i).trans ?_)
  simp only [score_logit]
  rfl

/-- The reference's hidden array, the leading axis of one dropped, is the formula's. -/
theorem nodes_eq (X : FVec Ideal S1x10000x128 .f32) (A : FVec Ideal S1x10000x10000 .f32) (W : FVec Ideal S64x128 .f32)
    (b : FVec Ideal S64 .f32) (a : FVec Ideal S_ .f32) :
    shapeCast S10000x64 (conv X A W b a) shapeCasts_S1x10000x64_S10000x64 = nodes X A W b a := by
  funext i
  pointwise [nodes]
  rw [conv_at]
  rfl

/-- The contents of a buffer at launch. -/
abbrev arg (m : (ℓ : Loc nD τ sig) → Buf (Elt Ideal) ℓ) (c : Dev nD) (r : Ref sig .tc) : Buf (Elt Ideal) ((c.tc : Thread nD τ).loc r) :=
  m ((c.tc : Thread nD τ).loc r)

/-- Every execution of the reference ends with the formula's row of logits and the formula's hidden array in its two results,
    and with its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) =
        logits (arg m c main_arg0) (arg m c main_arg1) (arg m c main_arg2) (arg m c main_arg6) (arg m c main_arg7) (arg m c main_arg8)
          (arg m c main_arg9) (arg m c main_arg10) (arg m c main_arg4) (arg m c main_arg5)
      ∧ r.2.mem ((c.tc : Thread nD τ).loc main_v50) =
        nodes (arg m c main_arg0) (arg m c main_arg2) (arg m c main_arg6) (arg m c main_arg7) (arg m c main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun r h c => ⟨(h c).1.trans (logits_eq m c),
    (h c).2.1.trans (nodes_eq (arg m c main_arg0) (arg m c main_arg2) (arg m c main_arg6) (arg m c main_arg7) (arg m c main_arg8)),
    (h c).2.2⟩) (Cert.ReferenceIdeal.Value.run m ρ)

end Cert.Proof.Reference
-- ==== Proof.lean ====
/- The five claims: the kernel, its idealized form and the reference each run without a fault and leave their arguments
   alone; the idealized form is the kernel with one constant named; and the idealized form and the reference end with equal
   results. The run of the kernel is `Launch.run`, the run of the reference is `Reference.run`, and both are stated by the
   formulas of `Proof/Formula.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- Every execution of the reference ends with the counters at zero and the arguments as they were. -/
theorem reference_frame : Cert.quiescent_ReferenceIdeal (hReferenceIdeal := Cert.ReferenceIdeal.Gen.facts) := by
  intro m g _
  exact (θ_run _ _ _).mono (fun r h => ⟨fun c => (h c).2.2, sem_eq_zero_of_no_sems rfl r.2⟩) (Reference.run m g)

/-- The one replaced constant: the number printed for `inv_n` stands for one ten-thousandth. -/
theorem constants : Cert.preserves_Kernel_KernelIdeal :=
  IdealRules.named_const.statement Cert.KernelIdeal.κ "inv_n" .f32 0x38D1B717#32 _ rfl

/-- On equal arguments the kernel and the reference end with equal results, both of them. -/
theorem equal : Cert.algebraic_KernelIdeal_ReferenceIdeal (hKernelIdeal := Cert.KernelIdeal.Gen.facts)
    (hReferenceIdeal := Cert.ReferenceIdeal.Gen.facts) := by
  intro m g m' g' _ hagree
  refine ⟨_, _, Launch.run m g, (θ_run _ _ _).mono (fun r h c => ?_) (Reference.run m' g')⟩
  obtain ⟨h0, h1, h2, -, h4, h5, h6, h7, h8, h9, h10⟩ := hagree c
  obtain ⟨e0, e1, hargs⟩ := h c
  exact ⟨e0.trans (Formula.logits_congr h0 h1 h2 h6 h7 h8 h9 h10 h4 h5), e1.trans (Formula.nodes_congr h0 h2 h6 h7 h8), hargs⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, constants, equal⟩

end Cert.Proof

end
